-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_tables [hPre_in_tables : Cert.Pre_in_tables.Facts] (m : (ℓ : Loc Cert.KernelIdeal.nD Cert.KernelIdeal.τ Cert.KernelIdeal.sig) → Buf (Elt Ideal) ℓ) : Prop :=
  ∀ c : Dev Cert.KernelIdeal.nD,
    (Cert.Pre_in_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_tables [hPre_in_tables : Cert.Pre_in_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_tables [hKernelIdeal : Cert.KernelIdeal.Facts] [hPre_in_tables : Cert.Pre_in_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_tables [hReferenceIdeal : Cert.ReferenceIdeal.Facts] [hPre_in_tables : Cert.Pre_in_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_tables [hKernelIdeal : Cert.KernelIdeal.Facts] [hReferenceIdeal : Cert.ReferenceIdeal.Facts] [hPre_in_tables : Cert.Pre_in_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_tables : Cert.Pre_in_tables.Facts),
    quiescent_Kernel (hKernel := hKernel)
    ∧ quiescent_KernelIdeal (hKernelIdeal := hKernelIdeal)
    ∧ quiescent_KernelIdeal_pre_in_tables (hKernelIdeal := hKernelIdeal) (hPre_in_tables := hPre_in_tables)
    ∧ quiescent_ReferenceIdeal (hReferenceIdeal := hReferenceIdeal)
    ∧ quiescent_ReferenceIdeal_pre_in_tables (hReferenceIdeal := hReferenceIdeal) (hPre_in_tables := hPre_in_tables)
    ∧ preserves_Kernel_KernelIdeal
    ∧ algebraic_KernelIdeal_ReferenceIdeal_pre_in_tables (hKernelIdeal := hKernelIdeal) (hReferenceIdeal := hReferenceIdeal) (hPre_in_tables := hPre_in_tables)
-- ==== Pre_in_tables.lean ====
abbrev S4096x200x5 : Shape := ⟨3, ![4096, 200, 5]⟩
abbrev S4x128 : Shape := ⟨2, ![4, 128]⟩
abbrev S24x128 : Shape := ⟨2, ![24, 128]⟩
abbrev S7x128 : Shape := ⟨2, ![7, 128]⟩
abbrev S32x128 : Shape := ⟨2, ![32, 128]⟩
abbrev S13x128 : Shape := ⟨2, ![13, 128]⟩
abbrev S5 : Shape := ⟨1, ![5]⟩
abbrev S_ : Shape := ⟨0, ![]⟩
abbrev S1x1x5 : Shape := ⟨3, ![1, 1, 5]⟩

class Facts : Prop where
  bcast_S_S4096x200x5 : S_.BroadcastsInDim S4096x200x5 (![] : Fin 0 → Fin S4096x200x5.rank)
  bcast_S5_S1x1x5_2 : S5.BroadcastsInDim S1x1x5 (![2] : Fin 1 → Fin S1x1x5.rank)
  bcast_S1x1x5_S4096x200x5_0_1_2 : S1x1x5.BroadcastsInDim S4096x200x5 (![0, 1, 2] : Fin 3 → Fin S4096x200x5.rank)
  reducesTo_S4096x200x5_S_d0_1_2 : S4096x200x5.ReducesTo [0, 1, 2] S_
  h_S_ : 0 < S_.numel

variable [Facts]

noncomputable abbrev lit0 : Fin 5 → BitVec 32 := fun
  | 0 => 13#32 | 1 => 32#32 | 2 => 7#32 | 3 => 24#32 | 4 => 4#32
  | _ => 0#32

def fn {F : FTy → Type} [FloatOps F] (main_arg0 : IVec S4096x200x5 32) (main_arg1 : FVec F S4x128 .f32) (main_arg2 : FVec F S24x128 .f32) (main_arg3 : FVec F S7x128 .f32) (main_arg4 : FVec F S32x128 .f32) (main_arg5 : FVec F S13x128 .f32) : IVec S_ 1 :=
  let main_c : IVec S5 32 := fun i => lit0 (S5.rowMajor i)
  let main_c_0 : IVec S_ 32 := constantI S_ 32 0#32
  let main_v0 : IVec S4096x200x5 32 := broadcastInDim S4096x200x5 ![] bcast_S_S4096x200x5 main_c_0
  let main_v1 : IVec S4096x200x5 1 := cmpi .sge main_arg0 main_v0
  let main_v2 : IVec S1x1x5 32 := broadcastInDim S1x1x5 ![2] bcast_S5_S1x1x5_2 main_c
  let main_v3 : IVec S4096x200x5 32 := broadcastInDim S4096x200x5 ![0, 1, 2] bcast_S1x1x5_S4096x200x5_0_1_2 main_v2
  let main_v4 : IVec S4096x200x5 1 := cmpi .slt main_arg0 main_v3
  let main_v5 : IVec S4096x200x5 1 := andi main_v1 main_v4
  let main_c_1 : IVec S_ 1 := constantI S_ 1 1#1
  let main_v6 : IVec S_ 1 := (fun x v => Host.reduce IntOp.andi x v reducesTo_S4096x200x5_S_d0_1_2 h_S_) main_v5 main_c_1
  main_v6
-- ==== Kernel.lean ====
abbrev S4096x200x5 : Shape := ⟨3, ![4096, 200, 5]⟩
abbrev S4x128 : Shape := ⟨2, ![4, 128]⟩
abbrev S24x128 : Shape := ⟨2, ![24, 128]⟩
abbrev S7x128 : Shape := ⟨2, ![7, 128]⟩
abbrev S32x128 : Shape := ⟨2, ![32, 128]⟩
abbrev S13x128 : Shape := ⟨2, ![13, 128]⟩
abbrev S_ : Shape := ⟨0, ![]⟩
abbrev S128x128 : Shape := ⟨2, ![128, 128]⟩
abbrev S819200x5 : Shape := ⟨2, ![819200, 5]⟩
abbrev S819200x128 : Shape := ⟨2, ![819200, 128]⟩
abbrev S2048x5 : Shape := ⟨2, ![2048, 5]⟩
abbrev S2048x128 : Shape := ⟨2, ![2048, 128]⟩
abbrev S2048x1 : Shape := ⟨2, ![2048, 1]⟩
abbrev S2048 : Shape := ⟨1, ![2048]⟩
abbrev S4096x200x128 : Shape := ⟨3, ![4096, 200, 128]⟩

abbrev nBuf : Space → Nat
  | .hbm => 26
  | .vmem => 5
  | .smem => 0
  | _ => 0

abbrev bufTy : (tb : Table) → Fin (tcTables nBuf tb) → BufTy
  | .hbm, ⟨0, _⟩ => ⟨S4096x200x5, .i32⟩
  | .hbm, ⟨1, _⟩ => ⟨S4x128, .f32⟩
  | .hbm, ⟨2, _⟩ => ⟨S24x128, .f32⟩
  | .hbm, ⟨3, _⟩ => ⟨S7x128, .f32⟩
  | .hbm, ⟨4, _⟩ => ⟨S32x128, .f32⟩
  | .hbm, ⟨5, _⟩ => ⟨S13x128, .f32⟩
  | .hbm, ⟨6, _⟩ => ⟨S_, .f32⟩
  | .hbm, ⟨7, _⟩ => ⟨S128x128, .f32⟩
  | .hbm, ⟨8, _⟩ => ⟨S_, .i32⟩
  | .hbm, ⟨9, _⟩ => ⟨S_, .i32⟩
  | .hbm, ⟨10, _⟩ => ⟨S128x128, .f32⟩
  | .hbm, ⟨11, _⟩ => ⟨S_, .i32⟩
  | .hbm, ⟨12, _⟩ => ⟨S_, .i32⟩
  | .hbm, ⟨13, _⟩ => ⟨S128x128, .f32⟩
  | .hbm, ⟨14, _⟩ => ⟨S_, .i32⟩
  | .hbm, ⟨15, _⟩ => ⟨S_, .i32⟩
  | .hbm, ⟨16, _⟩ => ⟨S128x128, .f32⟩
  | .hbm, ⟨17, _⟩ => ⟨S_, .i32⟩
  | .hbm, ⟨18, _⟩ => ⟨S_, .i32⟩
  | .hbm, ⟨19, _⟩ => ⟨S128x128, .f32⟩
  | .hbm, ⟨20, _⟩ => ⟨S_, .i32⟩
  | .hbm, ⟨21, _⟩ => ⟨S_, .i32⟩
  | .hbm, ⟨22, _⟩ => ⟨S128x128, .f32⟩
  | .hbm, ⟨23, _⟩ => ⟨S819200x5, .i32⟩
  | .hbm, ⟨24, _⟩ => ⟨S819200x128, .f32⟩
  | .hbm, ⟨25, _⟩ => ⟨S4096x200x128, .f32⟩
  | .local _ .vmem, ⟨0, _⟩ => ⟨S2048x5, .i32⟩
  | .local _ .vmem, ⟨1, _⟩ => ⟨S2048x5, .i32⟩
  | .local _ .vmem, ⟨2, _⟩ => ⟨S128x128, .f32⟩
  | .local _ .vmem, ⟨3, _⟩ => ⟨S2048x128, .f32⟩
  | .local _ .vmem, ⟨4, _⟩ => ⟨S2048x128, .f32⟩
  | _, _ => ⟨S4096x200x5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_c_0 : Ref sig .tc := ⟨.hbm, 9, rfl⟩
abbrev main_v1 : Ref sig .tc := ⟨.hbm, 10, rfl⟩
abbrev main_c_1 : Ref sig .tc := ⟨.hbm, 11, rfl⟩
abbrev main_c_2 : Ref sig .tc := ⟨.hbm, 12, rfl⟩
abbrev main_v2 : Ref sig .tc := ⟨.hbm, 13, rfl⟩
abbrev main_c_3 : Ref sig .tc := ⟨.hbm, 14, rfl⟩
abbrev main_c_4 : Ref sig .tc := ⟨.hbm, 15, rfl⟩
abbrev main_v3 : Ref sig .tc := ⟨.hbm, 16, rfl⟩
abbrev main_c_5 : Ref sig .tc := ⟨.hbm, 17, rfl⟩
abbrev main_c_6 : Ref sig .tc := ⟨.hbm, 18, rfl⟩
abbrev main_v4 : Ref sig .tc := ⟨.hbm, 19, rfl⟩
abbrev main_c_7 : Ref sig .tc := ⟨.hbm, 20, rfl⟩
abbrev main_c_8 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x5 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x200x5 : Shape := ⟨3, ![4096, 200, 5]⟩
abbrev S4x128 : Shape := ⟨2, ![4, 128]⟩
abbrev S24x128 : Shape := ⟨2, ![24, 128]⟩
abbrev S7x128 : Shape := ⟨2, ![7, 128]⟩
abbrev S32x128 : Shape := ⟨2, ![32, 128]⟩
abbrev S13x128 : Shape := ⟨2, ![13, 128]⟩
abbrev S4096x200x1 : Shape := ⟨3, ![4096, 200, 1]⟩
abbrev S4096x200 : Shape := ⟨2, ![4096, 200]⟩
abbrev S_ : Shape := ⟨0, ![]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 135
  | .vmem => 0
  | .smem => 0
  | _ => 0

abbrev hbmTy0_0 (i : Nat) : BufTy := match i % 128 with
  | 0 => ⟨S4096x200x5, .i32⟩
  | 1 => ⟨S4x128, .f32⟩
  | 2 => ⟨S24x128, .f32⟩
  | 3 => ⟨S7x128, .f32⟩
  | 4 => ⟨S32x128, .f32⟩
  | 5 => ⟨S13x128, .f32⟩
  | 6 => ⟨S4096x200x1, .i32⟩
  | 7 => ⟨S4096x200, .i32⟩
  | 8 => ⟨S_, .i32⟩
  | 9 => ⟨S4096x200, .i32⟩
  | 10 => ⟨S4096x200, .i1⟩
  | 11 => ⟨S_, .i32⟩
  | 12 => ⟨S4096x200, .i32⟩
  | 13 => ⟨S4096x200, .i32⟩
  | 14 => ⟨S4096x200, .i32⟩
  | 15 => ⟨S4096x200x1, .i32⟩
  | 16 => ⟨S1, .i32⟩
  | 17 => ⟨S_, .i32⟩
  | 18 => ⟨S4096x200x1, .i32⟩
  | 19 => ⟨S4096x200x1, .i1⟩
  | 20 => ⟨S1x1x1, .i32⟩
  | 21 => ⟨S4096x200x1, .i32⟩
  | 22 => ⟨S4096x200x1, .i1⟩
  | 23 => ⟨S4096x200x1, .i1⟩
  | 24 => ⟨S_, .i1⟩
  | 25 => ⟨S4096x200, .i1⟩
  | 26 => ⟨S4096x200x128, .f32⟩
  | 27 => ⟨S4096x200x128, .i1⟩
  | 28 => ⟨S_, .f32⟩
  | 29 => ⟨S4096x200x128, .f32⟩
  | 30 => ⟨S4096x200x128, .f32⟩
  | 31 => ⟨S4096x200x1, .i32⟩
  | 32 => ⟨S4096x200, .i32⟩
  | 33 => ⟨S_, .i32⟩
  | 34 => ⟨S4096x200, .i32⟩
  | 35 => ⟨S4096x200, .i1⟩
  | 36 => ⟨S_, .i32⟩
  | 37 => ⟨S4096x200, .i32⟩
  | 38 => ⟨S4096x200, .i32⟩
  | 39 => ⟨S4096x200, .i32⟩
  | 40 => ⟨S4096x200x1, .i32⟩
  | 41 => ⟨S1, .i32⟩
  | 42 => ⟨S_, .i32⟩
  | 43 => ⟨S4096x200x1, .i32⟩
  | 44 => ⟨S4096x200x1, .i1⟩
  | 45 => ⟨S1x1x1, .i32⟩
  | 46 => ⟨S4096x200x1, .i32⟩
  | 47 => ⟨S4096x200x1, .i1⟩
  | 48 => ⟨S4096x200x1, .i1⟩
  | 49 => ⟨S_, .i1⟩
  | 50 => ⟨S4096x200, .i1⟩
  | 51 => ⟨S4096x200x128, .f32⟩
  | 52 => ⟨S4096x200x128, .i1⟩
  | 53 => ⟨S_, .f32⟩
  | 54 => ⟨S4096x200x128, .f32⟩
  | 55 => ⟨S4096x200x128, .f32⟩
  | 56 => ⟨S4096x200x1, .i32⟩
  | 57 => ⟨S4096x200, .i32⟩
  | 58 => ⟨S_, .i32⟩
  | 59 => ⟨S4096x200, .i32⟩
  | 60 => ⟨S4096x200, .i1⟩
  | 61 => ⟨S_, .i32⟩
  | 62 => ⟨S4096x200, .i32⟩
  | 63 => ⟨S4096x200, .i32⟩
  | 64 => ⟨S4096x200, .i32⟩
  | 65 => ⟨S4096x200x1, .i32⟩
  | 66 => ⟨S1, .i32⟩
  | 67 => ⟨S_, .i32⟩
  | 68 => ⟨S4096x200x1, .i32⟩
  | 69 => ⟨S4096x200x1, .i1⟩
  | 70 => ⟨S1x1x1, .i32⟩
  | 71 => ⟨S4096x200x1, .i32⟩
  | 72 => ⟨S4096x200x1, .i1⟩
  | 73 => ⟨S4096x200x1, .i1⟩
  | 74 => ⟨S_, .i1⟩
  | 75 => ⟨S4096x200, .i1⟩
  | 76 => ⟨S4096x200x128, .f32⟩
  | 77 => ⟨S4096x200x128, .i1⟩
  | 78 => ⟨S_, .f32⟩
  | 79 => ⟨S4096x200x128, .f32⟩
  | 80 => ⟨S4096x200x128, .f32⟩
  | 81 => ⟨S4096x200x1, .i32⟩
  | 82 => ⟨S4096x200, .i32⟩
  | 83 => ⟨S_, .i32⟩
  | 84 => ⟨S4096x200, .i32⟩
  | 85 => ⟨S4096x200, .i1⟩
  | 86 => ⟨S_, .i32⟩
  | 87 => ⟨S4096x200, .i32⟩
  | 88 => ⟨S4096x200, .i32⟩
  | 89 => ⟨S4096x200, .i32⟩
  | 90 => ⟨S4096x200x1, .i32⟩
  | 91 => ⟨S1, .i32⟩
  | 92 => ⟨S_, .i32⟩
  | 93 => ⟨S4096x200x1, .i32⟩
  | 94 => ⟨S4096x200x1, .i1⟩
  | 95 => ⟨S1x1x1, .i32⟩
  | 96 => ⟨S4096x200x1, .i32⟩
  | 97 => ⟨S4096x200x1, .i1⟩
  | 98 => ⟨S4096x200x1, .i1⟩
  | 99 => ⟨S_, .i1⟩
  | 100 => ⟨S4096x200, .i1⟩
  | 101 => ⟨S4096x200x128, .f32⟩
  | 102 => ⟨S4096x200x128, .i1⟩
  | 103 => ⟨S_, .f32⟩
  | 104 => ⟨S4096x200x128, .f32⟩
  | 105 => ⟨S4096x200x128, .f32⟩
  | 106 => ⟨S4096x200x1, .i32⟩
  | 107 => ⟨S4096x200, .i32⟩
  | 108 => ⟨S_, .i32⟩
  | 109 => ⟨S4096x200, .i32⟩
  | 110 => ⟨S4096x200, .i1⟩
  | 111 => ⟨S_, .i32⟩
  | 112 => ⟨S4096x200, .i32⟩
  | 113 => ⟨S4096x200, .i32⟩
  | 114 => ⟨S4096x200, .i32⟩
  | 115 => ⟨S4096x200x1, .i32⟩
  | 116 => ⟨S1, .i32⟩
  | 117 => ⟨S_, .i32⟩
  | 118 => ⟨S4096x200x1, .i32⟩
  | 119 => ⟨S4096x200x1, .i1⟩
  | 120 => ⟨S1x1x1, .i32⟩
  | 121 => ⟨S4096x200x1, .i32⟩
  | 122 => ⟨S4096x200x1, .i1⟩
  | 123 => ⟨S4096x200x1, .i1⟩
  | 124 => ⟨S_, .i1⟩
  | 125 => ⟨S4096x200, .i1⟩
  | 126 => ⟨S4096x200x128, .f32⟩
  | 127 => ⟨S4096x200x128, .i1⟩
  | _ => ⟨S4096x200x5, .i32⟩

abbrev hbmTy0_1 (i : Nat) : BufTy := match i % 128 with
  | 0 => ⟨S_, .f32⟩
  | 1 => ⟨S4096x200x128, .f32⟩
  | 2 => ⟨S4096x200x128, .f32⟩
  | 3 => ⟨S4096x200x128, .f32⟩
  | 4 => ⟨S4096x200x128, .f32⟩
  | 5 => ⟨S4096x200x128, .f32⟩
  | 6 => ⟨S4096x200x128, .f32⟩
  | _ => ⟨S4096x200x5, .i32⟩

abbrev hbmTy (i : Nat) : BufTy := match i / 128 with
  | 0 => hbmTy0_0 i
  | 1 => hbmTy0_1 i
  | _ => ⟨S4096x200x5, .i32⟩

abbrev bufTy : (tb : Table) → Fin (tcTables nBuf tb) → BufTy
  | .hbm, ⟨i, _⟩ => hbmTy i
  | _, _ => ⟨S4096x200x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_cst : Ref sig .tc := ⟨.hbm, 103, rfl⟩
abbrev main_call3_v15 : Ref sig .tc := ⟨.hbm, 104, rfl⟩
abbrev main_v11 : Ref sig .tc := ⟨.hbm, 105, rfl⟩
abbrev main_v12 : Ref sig .tc := ⟨.hbm, 106, rfl⟩
abbrev main_v13 : Ref sig .tc := ⟨.hbm, 107, rfl⟩
abbrev main_call4_c : Ref sig .tc := ⟨.hbm, 108, rfl⟩
abbrev main_call4_v0 : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_c_1 : Ref sig .tc := ⟨.hbm, 116, rfl⟩
abbrev main_call4_c_2 : Ref sig .tc := ⟨.hbm, 117, rfl⟩
abbrev main_call4_v6 : Ref sig .tc := ⟨.hbm, 118, rfl⟩
abbrev main_call4_v7 : Ref sig .tc := ⟨.hbm, 119, rfl⟩
abbrev main_call4_v8 : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_c_3 : Ref sig .tc := ⟨.hbm, 124, rfl⟩
abbrev main_call4_v12 : Ref sig .tc := ⟨.hbm, 125, rfl⟩
abbrev main_call4_v13 : Ref sig .tc := ⟨.hbm, 126, rfl⟩
abbrev main_call4_v14 : Ref sig .tc := ⟨.hbm, 127, rfl⟩
abbrev main_call4_cst : Ref sig .tc := ⟨.hbm, 128, rfl⟩
abbrev main_call4_v15 : Ref sig .tc := ⟨.hbm, 129, rfl⟩
abbrev main_v14 : Ref sig .tc := ⟨.hbm, 130, rfl⟩
abbrev main_v15 : Ref sig .tc := ⟨.hbm, 131, rfl⟩
abbrev main_v16 : Ref sig .tc := ⟨.hbm, 132, rfl⟩
abbrev main_v17 : Ref sig .tc := ⟨.hbm, 133, rfl⟩
abbrev main_v18 : Ref sig .tc := ⟨.hbm, 134, rfl⟩

abbrev nD : Nat := 1
abbrev τ : Topo := Topo.v7x

variable {F : FTy → Type} [FloatOps F]
-- ==== Proof.Precondition.lean ====
/-
  What the precondition says of the indices: each of the five indices at every batch and position is a row of its table.
-/
module

public import proofs.«01_k».proof.Defs
public import proofs.«01_k».proof.Proof.Gen.Pre_in_tables
public import Idealize.ShloMosaic.Lib.ReduceAll
public import Idealize.ShloMosaic.Lib.Pipeline.Value
public import Idealize.ShloMosaic.Lib.ValueIdxCore

@[expose] public section

noncomputable section

namespace Cert.Proof.Precondition

open Idealize.ShloMosaic Idealize.ShloMosaic.ValueIdx Cert.Pre_in_tables Cert.Pre_in_tables.Facts

/-- The five tables' numbers of rows, in the order of the indices. -/
def sizes : Fin 5 → Nat := ![13, 32, 7, 24, 4]

/-- Each index is a row of its table. -/
def InTables (x : IVec S4096x200x5 32) : Prop :=
  ∀ (b : Fin 4096) (l : Fin 200) (k : Fin 5), 0 ≤ (x (ix3 b l k)).toInt ∧ (x (ix3 b l k)).toInt < sizes k

/-- The printed predicate, true, says so. -/
theorem inTables_of {F : FTy → Type} [FloatOps F] [Cert.Pre_in_tables.Facts] (x : IVec S4096x200x5 32) (t1 : FVec F S4x128 .f32) (t2 : FVec F S24x128 .f32)
    (t3 : FVec F S7x128 .f32) (t4 : FVec F S32x128 .f32) (t5 : FVec F S13x128 .f32)
    (h : Cert.Pre_in_tables.fn x t1 t2 t3 t4 t5 = fun _ => 1#1) : InTables x := by
  intro b l k
  have hall := congrFun h ix0
  unfold Cert.Pre_in_tables.fn at hall
  haveI : Subsingleton S_.Idx := ⟨fun a b => funext fun k => k.elim0⟩
  have hi := Host.reduce_andi_all _ _ _ _ _ hall (ix3 b l k)
  obtain ⟨h0, h1⟩ := IntOp.andi_eq_one.1 hi
  have h0 := IntOp.cmpi_sge.1 h0
  have h1 := IntOp.cmpi_slt.1 h1
  refine ⟨h0, lt_of_lt_of_eq h1 ?_⟩
  have e : broadcastInDim S4096x200x5 ![0, 1, 2] bcast_S1x1x5_S4096x200x5_0_1_2
      (broadcastInDim S1x1x5 ![2] bcast_S5_S1x1x5_2 (fun i => lit0 (S5.rowMajor i))) (ix3 b l k) = lit0 k := by
    refine (broadcastInDim_apply _ _ _ _ (ix3 (0 : Fin 1) (0 : Fin 1) k) (fun a => ?_)).trans
      ((broadcastInDim_apply _ _ _ _ (ix1 k) (fun a => ?_)).trans (congrArg lit0 (Fin.ext (Shape.rowMajor_val_one (ix1 k)))))
    · match a with
      | ⟨0, _⟩ => rfl
      | ⟨1, _⟩ => rfl
      | ⟨2, _⟩ => rfl
    · match a with
      | ⟨0, _⟩ => rfl
  rw [e]
  fin_cases k <;> rfl

end Cert.Proof.Precondition

end
-- ==== Proof.Rows.lean ====
/-
  What both programs compute where every index is a row of its table: at batch `b`, position `l`, lane `d` the sum of the
  entries of the minute, hour, weekday, day and month table in the rows the five indices name.
-/
module

public import proofs.«01_k».proof.Proof.Precondition

@[expose] public section

noncomputable section

namespace Cert.Proof.Rows

open Idealize.ShloMosaic Idealize.ShloMosaic.ValueIdx
open Cert.Pre_in_tables
open Cert.Proof.Precondition (InTables sizes)

/-- The row of an `n`-row table an index in range names. -/
def rowOf {n : Nat} (v : BitVec 32) (h : 0 ≤ v.toInt ∧ v.toInt < n) : Fin n := ⟨v.toInt.toNat, by omega⟩

theorem rowOf_val {n : Nat} (v : BitVec 32) (h : 0 ≤ v.toInt ∧ v.toInt < n) : v.toInt = (rowOf (n := n) v h).val := by
  show _ = ((v.toInt.toNat : Nat) : Int)
  omega

/-- An `n`-row table of extended reals. -/
abbrev Table (n : Nat) : Type := (⟨2, ![n, 128]⟩ : Shape).Idx → EReal

/-- The five tables' entries in the rows the indices name, added in the reference's order. -/
def sumOfRows (x : IVec S4096x200x5 32) (minute : Table 4) (hour : Table 24) (weekday : Table 7) (day : Table 32)
    (month : Table 13) (hx : InTables x) (b : Fin 4096) (l : Fin 200) (d : Fin 128) : EReal :=
  (((minute (ix2 (rowOf (n := 4) _ (hx b l 4)) d) + hour (ix2 (rowOf (n := 24) _ (hx b l 3)) d))
    + weekday (ix2 (rowOf (n := 7) _ (hx b l 2)) d)) + day (ix2 (rowOf (n := 32) _ (hx b l 1)) d))
    + month (ix2 (rowOf (n := 13) _ (hx b l 0)) d)

/-- The same arrays give the same sums. -/
theorem sumOfRows_congr {x x' : IVec S4096x200x5 32} {t1 t1' : Table 4} {t2 t2' : Table 24} {t3 t3' : Table 7}
    {t4 t4' : Table 32} {t5 t5' : Table 13} (h0 : x' = x) (h1 : t1' = t1) (h2 : t2' = t2) (h3 : t3' = t3) (h4 : t4' = t4)
    (h5 : t5' = t5) (hx' : InTables x') (hx : InTables x) (b : Fin 4096) (l : Fin 200) (d : Fin 128) :
    sumOfRows x' t1' t2' t3' t4' t5' hx' b l d = sumOfRows x t1 t2 t3 t4 t5 hx b l d := by
  subst h0 h1 h2 h3 h4 h5
  rfl

end Cert.Proof.Rows

end
-- ==== Proof.Reference.lean ====
/-
  What the reference computes, at the extended reals and where every index is a row of its table: at batch `b`, position
  `l`, lane `d` the sum of the five tables' entries in the rows the indices name. Each of the five lookups first adds the
  number of rows to a negative index, then gathers the row, then replaces the entries of an index that is no row; with
  the index in range the first and the last change nothing.
-/
module

public import proofs.«01_k».proof.Proof.Gen.ReferenceIdeal.Run
public import Idealize.ShloMosaic.Lib.ReduceAll
public import Idealize.ShloMosaic.Lib.Pipeline.Value
public import Idealize.ShloMosaic.Lib.ValueIdx
public import proofs.«01_k».proof.Proof.Rows

@[expose] public section

noncomputable section

namespace Cert.Proof.Reference

open Idealize.ShloMosaic Idealize.ShloMosaic.TcCoe Idealize.ShloMosaic.ValueIdx Idealize.SL.Sem
open Cert.ReferenceIdeal Cert.ReferenceIdeal.Facts Cert.ReferenceIdeal.Gen
open Cert.Proof.Precondition (InTables)
open Cert.Proof.Rows

/-! ## One row of a table per index -/

/-- The dimension numbers of a gather of whole rows of an `n`-row table, one row index per batch and position. -/
abbrev rowDims (n : Nat) (wf : GatherDims.WF ⟨2, ![n, 128]⟩ S4096x200x1 S4096x200x128 [2] [0] [] [0] [] 2 ![1, 128]) :
    GatherDims ⟨2, ![n, 128]⟩ S4096x200x1 S4096x200x128 where
  offsetDims := [2]
  collapsedSliceDims := [0]
  operandBatchingDims := []
  startIndicesBatchingDims := []
  startIndexMap := [0]
  indexVectorDim := 2
  sliceSizes := ![1, 128]
  wf := wf

/-- Such a gather at batch `b`, position `l`, lane `d`, where the index is in range: the entry in the row it names. -/
theorem gather_row {n : Nat} (wf : GatherDims.WF ⟨2, ![n, 128]⟩ S4096x200x1 S4096x200x128 [2] [0] [] [0] [] 2 ![1, 128])
    (tab : (⟨2, ![n, 128]⟩ : Shape).Idx → Ideal .f32) (idx : IVec S4096x200x1 32) (b : Fin 4096) (l : Fin 200) (d : Fin 128)
    (r : Fin n) (hr : (idx (ix3 b l 0)).toInt = r.val) :
    Host.gather (rowDims n wf) tab idx (ix3 b l d) = tab (ix2 r d) := by
  unfold Host.gather
  congr 1
  funext a
  refine Fin.ext ?_
  show (rowDims n wf).start (ix3 b l d) idx a + (rowDims n wf).batchCoord (ix3 b l d) a
      + (rowDims n wf).offCoord (ix3 b l d) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims n wf).startIndexMap from List.mem_singleton.mpr rfl)]
    rw [show (rowDims n wf).siIdx (ix3 b l d) ⟨List.idxOf (0 : Fin 2) (rowDims n wf).startIndexMap,
        List.idxOf_lt_length_iff.2 (List.mem_singleton.mpr rfl)⟩ = ix3 b l 0 from by
      funext k; refine Fin.ext ?_
      match k with
      | ⟨0, _⟩ => rfl
      | ⟨1, _⟩ => rfl
      | ⟨2, _⟩ => rfl, hr]
    have := r.isLt
    show min ((r.val : Int)).toNat (n - 1) = r.val
    omega
  · unfold GatherDims.start
    rw [dif_neg (show (1 : Fin 2) ∉ (rowDims n wf).startIndexMap from by
      show (1 : Fin 2) ∉ [(0 : Fin 2)]; decide), Nat.zero_add]
    rfl

/-! ## One lookup -/

/-- Column `t` of the indices. -/
abbrev column (x : IVec S4096x200x5 32) (t : Nat) (hs : S4096x200x5.Slices ![0, 0, t] S4096x200x1) : IVec S4096x200 32 :=
  shapeCast _ (extractStridedSlice S4096x200x1 ![0, 0, t] x hs) shapeCasts_S4096x200x1_S4096x200

theorem column_apply (x : IVec S4096x200x5 32) (t : Fin 5) (hs : S4096x200x5.Slices ![0, 0, t.val] S4096x200x1)
    (b : Fin 4096) (l : Fin 200) : column x t.val hs (ix2 b l) = x (ix3 b l t) := by
  refine (shapeCast_apply _ _ _ (ix3 b l (0 : Fin 1)) ?_).trans ?_
  · rw [Shape.rowMajor_val_two, Shape.rowMajor_val_three]
    show (b.val * 200 + l.val) * 1 + 0 = b.val * 200 + l.val
    omega
  · unfold extractStridedSlice
    congr 1
    funext a; apply Fin.ext
    match a with
    | ⟨0, _⟩ => show 0 + b.val = b.val; omega
    | ⟨1, _⟩ => show 0 + l.val = l.val; omega
    | ⟨2, _⟩ => show t.val + 0 = t.val; omega

/-- A column of indices with the number of rows added to the negative ones, one row index per batch and position. -/
abbrev wrapped (col : IVec S4096x200 32) (n : BitVec 32) : IVec S4096x200x1 32 :=
  broadcastInDim S4096x200x1 ![0, 1] bcast_S4096x200_S4096x200x1_0_1
    (select (cmpi .slt col (broadcastInDim S4096x200 ![] bcast_S_S4096x200 (constantI S_ 32 0#32)))
      (addi col (broadcastInDim S4096x200 ![] bcast_S_S4096x200 (constantI S_ 32 n))) col)

/-- An index that is not negative stays as it is. -/
theorem wrapped_apply (col : IVec S4096x200 32) (n : BitVec 32) (b : Fin 4096) (l : Fin 200) (k : Fin 1)
    (h : 0 ≤ (col (ix2 b l)).toInt) : wrapped col n (ix3 b l k) = col (ix2 b l) := by
  refine (broadcastInDim_apply _ _ _ _ (ix2 b l) (fun a => ?_)).trans ?_
  · match a with
    | ⟨0, _⟩ => rfl
    | ⟨1, _⟩ => rfl
  · show Scalar.select (IntOp.cmpi .slt (col (ix2 b l)) 0#32) _ _ = _
    rw [eq_zero_of_ne_one (fun e => absurd (IntOp.cmpi_slt.1 e) (by rw [show (0#32 : BitVec 32).toInt = 0 from rfl]; omega))]
    rfl

/-- One lookup as the reference prints it: the gathered rows where the index is a row, the fill value elsewhere. -/
abbrev lookup {n : Nat} (g : GatherDims ⟨2, ![n, 128]⟩ S4096x200x1 S4096x200x128) (tab : (⟨2, ![n, 128]⟩ : Shape).Idx → Ideal .f32)
    (col : IVec S4096x200 32) (wrap last : BitVec 32) : FVec Ideal S4096x200x128 .f32 :=
  select (broadcastInDim S4096x200x128 ![0, 1] bcast_S4096x200_S4096x200x128_0_1
      (Host.reduce IntOp.andi (andi
        (cmpi .sge (wrapped col wrap) (broadcastInDim S4096x200x1 ![] bcast_S_S4096x200x1 (constantI S_ 32 0#32)))
        (cmpi .sle (wrapped col wrap) (broadcastInDim S4096x200x1 ![0, 1, 2] bcast_S1x1x1_S4096x200x1_0_1_2
          (broadcastInDim S1x1x1 ![2] bcast_S1_S1x1x1_2 (constantI S1 32 last)))))
        (constantI S_ 1 1#1) reducesTo_S4096x200x1_S4096x200_d2 h_S_))
    (Host.gather g tab (wrapped col wrap))
    (broadcastInDim S4096x200x128 ![] bcast_S_S4096x200x128 (constant S_ .f32 0x7FC00000#32))

/-- One lookup where every index of the column is a row: the entry in the row the index names. -/
theorem lookup_apply {n : Nat} (wf : GatherDims.WF ⟨2, ![n, 128]⟩ S4096x200x1 S4096x200x128 [2] [0] [] [0] [] 2 ![1, 128])
    (tab : (⟨2, ![n, 128]⟩ : Shape).Idx → Ideal .f32) (col : IVec S4096x200 32) (wrap last : BitVec 32)
    (hlast : last.toInt + 1 = n) (hcol : ∀ b l, 0 ≤ (col (ix2 b l)).toInt ∧ (col (ix2 b l)).toInt < n)
    (b : Fin 4096) (l : Fin 200) (d : Fin 128) (r : Fin n) (hr : (col (ix2 b l)).toInt = r.val) :
    lookup (rowDims n wf) tab col wrap last (ix3 b l d) = tab (ix2 r d) := by
  have within : ∀ (b : Fin 4096) (l : Fin 200) (k : Fin 1), IntOp.andi
      (IntOp.cmpi .sge (wrapped col wrap (ix3 b l k)) 0#32) (IntOp.cmpi .sle (wrapped col wrap (ix3 b l k)) last) = 1#1 := by
    intro b l k
    have h := hcol b l
    rw [wrapped_apply col wrap b l k h.1]
    refine IntOp.andi_eq_one.2 ⟨IntOp.cmpi_sge.2 ?_, IntOp.cmpi_sle.2 ?_⟩
    · exact h.1
    · omega
  have hmask : ∀ j, Host.reduce IntOp.andi (andi
        (cmpi .sge (wrapped col wrap) (broadcastInDim S4096x200x1 ![] bcast_S_S4096x200x1 (constantI S_ 32 0#32)))
        (cmpi .sle (wrapped col wrap) (broadcastInDim S4096x200x1 ![0, 1, 2] bcast_S1x1x1_S4096x200x1_0_1_2
          (broadcastInDim S1x1x1 ![2] bcast_S1_S1x1x1_2 (constantI S1 32 last)))))
        (constantI S_ 1 1#1) reducesTo_S4096x200x1_S4096x200_d2 h_S_ j = 1#1 := fun j =>
    Host.reduce_andi_one _ _ _ _ _ rfl fun i => by
      rw [eq_ix3 i]
      exact within (i 0) (i 1) (i 2)
  show Scalar.select (Host.reduce _ _ _ _ _ _) _ _ = _
  rw [hmask, select_one]
  exact gather_row wf tab _ b l d r (by rw [wrapped_apply col wrap b l 0 (hcol b l).1]; exact hr)

/-! ## The result -/

/-- The lookup in an `n`-row table by column `t` of the indices, where that column's indices are rows of it. -/
theorem lookup_column {n : Nat} (wf : GatherDims.WF ⟨2, ![n, 128]⟩ S4096x200x1 S4096x200x128 [2] [0] [] [0] [] 2 ![1, 128])
    (tab : (⟨2, ![n, 128]⟩ : Shape).Idx → Ideal .f32) (x : IVec S4096x200x5 32) (t : Fin 5)
    (hs : S4096x200x5.Slices ![0, 0, t.val] S4096x200x1) (wrap last : BitVec 32) (hlast : last.toInt + 1 = n)
    (hx : ∀ b l, 0 ≤ (x (ix3 b l t)).toInt ∧ (x (ix3 b l t)).toInt < n) (b : Fin 4096) (l : Fin 200) (d : Fin 128) :
    lookup (rowDims n wf) tab (column x t.val hs) wrap last (ix3 b l d) = tab (ix2 (rowOf (x (ix3 b l t)) (hx b l)) d) :=
  lookup_apply wf tab _ wrap last hlast (fun b l => by rw [column_apply]; exact hx b l) b l d _
    (by rw [column_apply]; exact rowOf_val _ _)

variable (m : (ℓ : Loc nD τ sig) → Buf (Elt Ideal) ℓ) (c : Dev nD)

/-- The reference's result: minute, hour, weekday, day and month entry, added in that order. -/
theorem result_apply (hx : InTables (m ((c.tc : Thread nD τ).loc main_arg0))) (b : Fin 4096) (l : Fin 200) (d : Fin 128) :
    Value.res_out0 m c (ix3 b l d)
      = sumOfRows (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) hx b l d := by
  have h4 := lookup_column gather_S4x128_S4096x200x1_S4096x200x128_2_0_n_n_0_2_1128.wf (m ((c.tc : Thread nD τ).loc main_arg1))
    (m ((c.tc : Thread nD τ).loc main_arg0)) 4 slices_S4096x200x5_S4096x200x1_0_0_4 4#32 3#32 rfl (fun b l => hx b l 4) b l d
  have h3 := lookup_column gather_S24x128_S4096x200x1_S4096x200x128_2_0_n_n_0_2_1128.wf (m ((c.tc : Thread nD τ).loc main_arg2))
    (m ((c.tc : Thread nD τ).loc main_arg0)) 3 slices_S4096x200x5_S4096x200x1_0_0_3 24#32 23#32 rfl (fun b l => hx b l 3) b l d
  have h2 := lookup_column gather_S7x128_S4096x200x1_S4096x200x128_2_0_n_n_0_2_1128.wf (m ((c.tc : Thread nD τ).loc main_arg3))
    (m ((c.tc : Thread nD τ).loc main_arg0)) 2 slices_S4096x200x5_S4096x200x1_0_0_2 7#32 6#32 rfl (fun b l => hx b l 2) b l d
  have h1 := lookup_column gather_S32x128_S4096x200x1_S4096x200x128_2_0_n_n_0_2_1128.wf (m ((c.tc : Thread nD τ).loc main_arg4))
    (m ((c.tc : Thread nD τ).loc main_arg0)) 1 slices_S4096x200x5_S4096x200x1_0_0_1 32#32 31#32 rfl (fun b l => hx b l 1) b l d
  have h0 := lookup_column gather_S13x128_S4096x200x1_S4096x200x128_2_0_n_n_0_2_1128.wf (m ((c.tc : Thread nD τ).loc main_arg5))
    (m ((c.tc : Thread nD τ).loc main_arg0)) 0 slices_S4096x200x5_S4096x200x1_0_0_0 13#32 12#32 rfl (fun b l => hx b l 0) b l d
  unfold Value.res_out0 Value.res_main_v18
  exact congrArg₂ (· + ·) (congrArg₂ (· + ·) (congrArg₂ (· + ·) (congrArg₂ (· + ·) h4 h3) h2) h1) h0

end Cert.Proof.Reference

end
-- ==== Proof.OneHot.lean ====
/-
  Sums against rows of zeros and ones, over the extended reals. A row that is 1 at one position and 0 elsewhere picks
  one entry of a column; a row that is a sum of five such rows picks five entries and adds them. The rows are
  nonnegative, so the product distributes over their sum even where the column holds an infinity.
-/
module

public import Mathlib.Data.EReal.Operations
public import Mathlib.Algebra.BigOperators.Fin

@[expose] public section

noncomputable section

namespace Cert.Proof.OneHot

open scoped BigOperators

/-- One where the condition holds, zero elsewhere. -/
def hot (p : Prop) [Decidable p] : EReal := if p then 1 else 0

theorem hot_nonneg (p : Prop) [Decidable p] : 0 ≤ hot p := by
  unfold hot; split
  · exact zero_le_one
  · exact le_rfl

/-- The row that is one at `k` picks the column's entry at `k`. -/
theorem sum_hot {n : ℕ} (T : Fin n → EReal) (k : Fin n) : ∑ c : Fin n, hot (c = k) * T c = T k := by
  rw [Finset.sum_eq_single k]
  · simp [hot]
  · intro c _ hc; simp [hot, hc]
  · intro h; exact absurd (Finset.mem_univ k) h

/-- Adding the row that is one at `k` to a nonnegative row adds the column's entry at `k` to the product. -/
theorem sum_add_hot {n : ℕ} (w T : Fin n → EReal) (hw : ∀ c, 0 ≤ w c) (k : Fin n) :
    ∑ c : Fin n, (w c + hot (c = k)) * T c = ∑ c : Fin n, w c * T c + T k := by
  rw [← sum_hot T k, ← Finset.sum_add_distrib]
  exact Finset.sum_congr rfl fun c _ => EReal.right_distrib_of_nonneg (hw c) (hot_nonneg _)

/-- A row with ones added at five positions, from zero on, picks those five entries of the column and adds them. -/
theorem sum_five_hot {n : ℕ} (T : Fin n → EReal) (k0 k1 k2 k3 k4 : Fin n) :
    ∑ c : Fin n, (((((0 + hot (c = k0)) + hot (c = k1)) + hot (c = k2)) + hot (c = k3)) + hot (c = k4)) * T c
      = T k0 + T k1 + T k2 + T k3 + T k4 := by
  have h0 : ∀ c : Fin n, 0 ≤ 0 + hot (c = k0) := fun c => add_nonneg le_rfl (hot_nonneg _)
  have h1 : ∀ c : Fin n, 0 ≤ 0 + hot (c = k0) + hot (c = k1) := fun c => add_nonneg (h0 c) (hot_nonneg _)
  have h2 : ∀ c : Fin n, 0 ≤ 0 + hot (c = k0) + hot (c = k1) + hot (c = k2) := fun c => add_nonneg (h1 c) (hot_nonneg _)
  have h3 : ∀ c : Fin n, 0 ≤ 0 + hot (c = k0) + hot (c = k1) + hot (c = k2) + hot (c = k3) :=
    fun c => add_nonneg (h2 c) (hot_nonneg _)
  rw [sum_add_hot _ T h3, sum_add_hot _ T h2, sum_add_hot _ T h1, sum_add_hot _ T h0]
  simp only [zero_add, sum_hot]

end Cert.Proof.OneHot

end
-- ==== Proof.Table.lean ====
/-
  What the stacked table holds. The host writes the five small tables into a 128 × 128 array of zeros, one below the
  other: the month table from row 0, the day table from row 13, the weekday table from row 45, the hour table from row 52
  and the minute table from row 76. Each table is read back at its own rows.
-/
module

public import proofs.«01_k».proof.Proof.Gen.KernelIdeal.Frame
public import Idealize.ShloMosaic.Lib.StableHlo.RunRead
public import Idealize.ShloMosaic.Lib.Pipeline.Value
public import Idealize.ShloMosaic.Lib.PointwiseCore
public import Idealize.ShloMosaic.Lib.ValueIdx

@[expose] public section

noncomputable section

namespace Cert.Proof.Table

open Idealize.ShloMosaic hiding ix2
open Idealize.ShloMosaic.TcCoe Idealize.ShloMosaic.ValueIdx Idealize.SL.Sem
open Cert.KernelIdeal Cert.KernelIdeal.Gen

/-- `n` rows written into a 128-row array at row `off`: inside those rows the array holds the
    written row. -/
theorem place_inside {α : Type} {n : Nat} (x : S128x128.Idx → α) (u : (⟨2, ![n, 128]⟩ : Shape).Idx → α)
    (start : Fin 2 → Int) (h : S128x128.Slices (fun _ => 0) ⟨2, ![n, 128]⟩) (off : Nat) (h0 : start 0 = off) (h1 : start 1 = 0)
    (hoff : off + n ≤ 128) (r : Fin n) (d : Fin 128) :
    Host.dynamicUpdateSlice x u start h (ix2 ⟨off + r.val, by omega⟩ d) = u (ix2 r d) := by
  have hs : S128x128.Slices ![off, 0] ⟨2, ![n, 128]⟩ := ⟨rfl, fun a => by
    match a with
    | ⟨0, _⟩ => exact hoff
    | ⟨1, _⟩ => exact le_rfl⟩
  rw [WordCmp.dynamicUpdateSlice_eq_update x u start h ![off, 0] hs (fun a => by
    match a with
    | ⟨0, _⟩ => exact h0
    | ⟨1, _⟩ => exact h1)]
  rw [updateSlice_apply, dif_pos (fun a => by
    match a with
    | ⟨0, _⟩ => exact ⟨Nat.le_add_right _ _, Nat.add_lt_add_left r.isLt _⟩
    | ⟨1, _⟩ => exact ⟨Nat.zero_le _, by show d.val < 0 + 128; omega⟩)]
  congr 1
  funext a; apply Fin.ext
  match a with
  | ⟨0, _⟩ => show off + r.val - off = r.val; omega
  | ⟨1, _⟩ => show d.val - 0 = d.val; omega

/-- Outside those rows it holds what it held. -/
theorem place_outside {α : Type} {n : Nat} (x : S128x128.Idx → α) (u : (⟨2, ![n, 128]⟩ : Shape).Idx → α)
    (start : Fin 2 → Int) (h : S128x128.Slices (fun _ => 0) ⟨2, ![n, 128]⟩) (off : Nat) (h0 : start 0 = off) (h1 : start 1 = 0)
    (hoff : off + n ≤ 128) (a : Fin 128) (d : Fin 128) (ha : a.val < off) :
    Host.dynamicUpdateSlice x u start h (ix2 a d) = x (ix2 a d) := by
  have hs : S128x128.Slices ![off, 0] ⟨2, ![n, 128]⟩ := ⟨rfl, fun a => by
    match a with
    | ⟨0, _⟩ => exact hoff
    | ⟨1, _⟩ => exact le_rfl⟩
  rw [WordCmp.dynamicUpdateSlice_eq_update x u start h ![off, 0] hs (fun a => by
    match a with
    | ⟨0, _⟩ => exact h0
    | ⟨1, _⟩ => exact h1)]
  rw [updateSlice_apply, dif_neg fun hin => absurd (show off ≤ a.val from (hin (0 : Fin 2)).1) (by omega)]

/-- One table placed at a word's row: the host's operation at starts read from that word and from zero. -/
abbrev place {n : Nat} (x : S128x128.Idx → Ideal .f32) (u : (⟨2, ![n, 128]⟩ : Shape).Idx → Ideal .f32) (off : BitVec 32)
    (h : S128x128.Slices (fun _ => 0) ⟨2, ![n, 128]⟩) : S128x128.Idx → Ideal .f32 :=
  Host.dynamicUpdateSlice x u ![off.toInt, 0] h

/-- The host's operation at starts that read so. -/
theorem place_of {n : Nat} {x x' : S128x128.Idx → Ideal .f32} {u : (⟨2, ![n, 128]⟩ : Shape).Idx → Ideal .f32}
    {start : Fin 2 → Int} {off : BitVec 32} {h : S128x128.Slices (fun _ => 0) ⟨2, ![n, 128]⟩} (hx : x = x')
    (h0 : start 0 = off.toInt) (h1 : start 1 = 0) : Host.dynamicUpdateSlice x u start h = place x' u off h := by
  subst hx
  rw [show start = ![off.toInt, 0] from funext fun k => by
    match k with
    | ⟨0, _⟩ => exact h0
    | ⟨1, _⟩ => exact h1]

variable (m : (ℓ : Loc nD τ sig) → Buf (Elt Ideal) ℓ) (c : Dev nD)

/-- The stacked table is the five tables placed one after the other over zeros. -/
theorem stacked_eq : V m c main_v5 =
    place (n := 4) (place (n := 24) (place (n := 7) (place (n := 32) (place (n := 13)
      (broadcastInDim S128x128 ![] bcast_S_S128x128 (constant S_ .f32 0x00000000#32))
      (m ((c : Thread nD τ).loc main_arg5)) 0#32 updateFits_S128x128_S13x128)
      (m ((c : Thread nD τ).loc main_arg4)) 13#32 updateFits_S128x128_S32x128)
      (m ((c : Thread nD τ).loc main_arg3)) 45#32 updateFits_S128x128_S7x128)
      (m ((c : Thread nD τ).loc main_arg2)) 52#32 updateFits_S128x128_S24x128)
      (m ((c : Thread nD τ).loc main_arg1)) 76#32 updateFits_S128x128_S4x128 := by
  unfold V V0 hostOps0
  after_reads_simp
  refine place_of (place_of (place_of (place_of (place_of ?_ ?_ ?_) ?_ ?_) ?_ ?_) ?_ ?_) ?_ ?_
  all_goals first
    | rfl
    | (simp only [Matrix.cons_val_zero, Matrix.cons_val_one]; after_reads_simp <;> rfl)

/-- The month table, from row 0 on. -/
theorem month_row (r : Fin 13) (d : Fin 128) :
    V m c main_v5 (ix2 ⟨0 + r.val, by omega⟩ d) = m ((c : Thread nD τ).loc main_arg5) (ix2 r d) := by
  rw [stacked_eq]
  exact
    (place_outside (n := 4) _ _ _ _ 76 rfl rfl (by decide) _ d (by show 0 + r.val < 76; omega)).trans <|
    (place_outside (n := 24) _ _ _ _ 52 rfl rfl (by decide) _ d (by show 0 + r.val < 52; omega)).trans <|
    (place_outside (n := 7) _ _ _ _ 45 rfl rfl (by decide) _ d (by show 0 + r.val < 45; omega)).trans <|
    (place_outside (n := 32) _ _ _ _ 13 rfl rfl (by decide) _ d (by show 0 + r.val < 13; omega)).trans <|
    place_inside (n := 13) _ _ _ _ 0 rfl rfl (by decide) r d

/-- The day table, from row 13 on. -/
theorem day_row (r : Fin 32) (d : Fin 128) :
    V m c main_v5 (ix2 ⟨13 + r.val, by omega⟩ d) = m ((c : Thread nD τ).loc main_arg4) (ix2 r d) := by
  rw [stacked_eq]
  exact
    (place_outside (n := 4) _ _ _ _ 76 rfl rfl (by decide) _ d (by show 13 + r.val < 76; omega)).trans <|
    (place_outside (n := 24) _ _ _ _ 52 rfl rfl (by decide) _ d (by show 13 + r.val < 52; omega)).trans <|
    (place_outside (n := 7) _ _ _ _ 45 rfl rfl (by decide) _ d (by show 13 + r.val < 45; omega)).trans <|
    place_inside (n := 32) _ _ _ _ 13 rfl rfl (by decide) r d

/-- The weekday table, from row 45 on. -/
theorem weekday_row (r : Fin 7) (d : Fin 128) :
    V m c main_v5 (ix2 ⟨45 + r.val, by omega⟩ d) = m ((c : Thread nD τ).loc main_arg3) (ix2 r d) := by
  rw [stacked_eq]
  exact
    (place_outside (n := 4) _ _ _ _ 76 rfl rfl (by decide) _ d (by show 45 + r.val < 76; omega)).trans <|
    (place_outside (n := 24) _ _ _ _ 52 rfl rfl (by decide) _ d (by show 45 + r.val < 52; omega)).trans <|
    place_inside (n := 7) _ _ _ _ 45 rfl rfl (by decide) r d

/-- The hour table, from row 52 on. -/
theorem hour_row (r : Fin 24) (d : Fin 128) :
    V m c main_v5 (ix2 ⟨52 + r.val, by omega⟩ d) = m ((c : Thread nD τ).loc main_arg2) (ix2 r d) := by
  rw [stacked_eq]
  exact
    (place_outside (n := 4) _ _ _ _ 76 rfl rfl (by decide) _ d (by show 52 + r.val < 76; omega)).trans <|
    place_inside (n := 24) _ _ _ _ 52 rfl rfl (by decide) r d

/-- The minute table, from row 76 on. -/
theorem minute_row (r : Fin 4) (d : Fin 128) :
    V m c main_v5 (ix2 ⟨76 + r.val, by omega⟩ d) = m ((c : Thread nD τ).loc main_arg1) (ix2 r d) := by
  rw [stacked_eq]
  exact
    place_inside (n := 4) _ _ _ _ 76 rfl rfl (by decide) r d

end Cert.Proof.Table

end
-- ==== Proof.Block.lean ====
/-
  What one block of the kernel computes, at the extended reals: row `r`, lane `d` of the block it writes is the sum over
  the 128 rows of the stacked table of a weight times the table's entry in that row and lane, the weight of row `c`
  counting how many of the five shifted indices of row `r` equal `c`.
-/
module

public import proofs.«01_k».proof.Proof.Gen.KernelIdeal.Frame
public import Idealize.ShloMosaic.Lib.Pipeline.Value
public import Idealize.ShloMosaic.Lib.MatmulPlain
public import Idealize.ShloMosaic.Lib.ValueIdx
public import Idealize.ShloMosaic.Lib.ValueLayoutCasts
public import Idealize.ShloMosaic.Lib.WordCmp
public import proofs.«01_k».proof.Proof.OneHot

@[expose] public section

noncomputable section

namespace Cert.Proof.Block

open Idealize.ShloMosaic Idealize.ShloMosaic.ValueIdx Cert.KernelIdeal Cert.KernelIdeal.Gen Cert.Proof.OneHot
open scoped BigOperators

/-- A truth value widened to a word and read as a number is one or zero. -/
theorem bit_value (x y : BitVec 32) :
    ((((IntOp.cmpi .eq x y).setWidth 32).toInt : ℝ) : EReal) = hot (x = y) := by
  unfold hot
  by_cases h : x = y
  · rw [if_pos h, IntOp.cmpi_eq.2 h]; norm_num
  · rw [if_neg h, eq_zero_of_ne_one (fun e => h (IntOp.cmpi_eq.1 e))]; norm_num

/-- Column `t` of a block of indices, shifted by `off` and compared with the lane number, as ones and zeros. -/
def marks (x : IVec S2048x5 32) (t : Nat) (off : BitVec 32) (hs : S2048x5.Slices ![0, t] S2048x1) : FVec Ideal S2048x128 .f32 :=
  sitofp .f32 (extui 32 (cmpi .eq (iota .tc S2048x128 32 [1] iota_S2048x128_d1_w32)
    (broadcastTo S2048x128 (addi (shapeCast S2048x1 (shapeCast S2048 (extractStridedSlice S2048x1 ![0, t] x hs)
      shapeCasts_S2048x1_S2048) shapeCasts_S2048_S2048x1) (broadcast S2048x1 off)) broadcasts_S2048x1_S2048x128)) natLt_1_32)

/-- At row `r`, lane `c` it is one where the shifted index is `c`, and zero elsewhere. -/
theorem marks_apply (x : IVec S2048x5 32) (t : Fin 5) (off : BitVec 32) (hs : S2048x5.Slices ![0, t.val] S2048x1)
    (r : Fin 2048) (c : Fin 128) :
    marks x t.val off hs (ix2 r c) = hot (BitVec.ofNat 32 c.val = x (ix2 r t) + off) := by
  rw [← bit_value]
  unfold marks
  rw [shapeCast_shapeCast]
  show ((((IntOp.cmpi .eq (iota .tc S2048x128 32 [1] iota_S2048x128_d1_w32 (ix2 r c)) (broadcastTo S2048x128
    (addi (extractStridedSlice S2048x1 ![0, t.val] x hs) (broadcast S2048x1 off)) broadcasts_S2048x1_S2048x128 (ix2 r c))).setWidth 32).toInt : ℝ) : EReal) = _
  have ei : iota .tc S2048x128 32 [1] iota_S2048x128_d1_w32 (ix2 r c) = BitVec.ofNat 32 c.val := by
    show BitVec.ofNat 32 (0 * 128 + c.val) = _
    rw [zero_mul, zero_add]
  have eb : broadcastTo S2048x128 (addi (extractStridedSlice S2048x1 ![0, t.val] x hs) (broadcast S2048x1 off))
      broadcasts_S2048x1_S2048x128 (ix2 r c) = x (ix2 r t) + off := by
    show x _ + off = _
    congr 2
    funext a; apply Fin.ext
    match a with
    | ⟨0, _⟩ => show 0 + r.val = r.val; rw [zero_add]
    | ⟨1, _⟩ => show t.val + 0 = t.val; rw [add_zero]
  rw [ei, eb]

/-- The weight of row `c` of the stacked table, for five words: how many of the words shifted by their tables' first
    rows equal `c`, added up one at a time. -/
def weight (x : Fin 5 → BitVec 32) (c : Fin 128) : EReal :=
  ((((0 + hot (BitVec.ofNat 32 c.val = x 0 + 0#32)) + hot (BitVec.ofNat 32 c.val = x 1 + 13#32))
    + hot (BitVec.ofNat 32 c.val = x 2 + 45#32)) + hot (BitVec.ofNat 32 c.val = x 3 + 52#32))
    + hot (BitVec.ofNat 32 c.val = x 4 + 76#32)

/-- The body's payload, its five columns' marks named. -/
theorem payload_eq (x0 : Vec Ideal S2048x5 .i32) (x1 : Vec Ideal S128x128 .f32) :
    k0_pay1 (F := Ideal) (k0_pay3 x0) (k0_pay4 x0) x1
      = FloatOps.matmul (φ₁ := .f32) (φ₂ := .f32) (DotDims.plain 2048 128 128) none
          (addf (addf (addf (addf (addf (broadcast S2048x128 (Scalar.ofBits .f32 0x00000000#32))
            (marks x0 0 0#32 slices_S2048x5_o0_0_S2048x1)) (marks x0 1 13#32 slices_S2048x5_o0_1_S2048x1))
            (marks x0 2 45#32 slices_S2048x5_o0_2_S2048x1)) (marks x0 3 52#32 slices_S2048x5_o0_3_S2048x1))
            (marks x0 4 76#32 slices_S2048x5_o0_4_S2048x1))
          x1 (constant S2048x128 .f32 0x00000000#32) := by
  unfold k0_pay1 k0_pay3 k0_pay4 k0_pay2
  simp only [shapeCast_self]
  rfl

/-- The kernel's block is the weights' rows times the stacked table. -/
theorem out_apply (x0 : Vec Ideal S2048x5 .i32) (x1 : Vec Ideal S128x128 .f32) (r : Fin 2048) (d : Fin 128) :
    out0_2 (F := Ideal) x0 x1 (ix2 r d) = ∑ c : Fin 128, weight (fun t => x0 (ix2 r t)) c * x1 (ix2 c d) := by
  have hz0 : (![0, 0] : Fin S2048x5.rank → Nat) = fun _ => 0 := funext fun a => by fin_cases a <;> rfl
  have hz1 : (![0, 0] : Fin S128x128.rank → Nat) = fun _ => 0 := funext fun a => by fin_cases a <;> rfl
  have hz2 : (![0, 0] : Fin S2048x128.rank → Nat) = fun _ => 0 := funext fun a => by fin_cases a <;> rfl
  unfold out0_2
  rw [View.canon_unit_zero hz2, View.ld_unit_zero hz0, View.ld_unit_zero hz1, payload_eq, Ideal.matmul_plain_apply]
  rw [show constant (F := Ideal) S2048x128 .f32 0x00000000#32 (ix2 r d) = 0 from Ideal.ofBits_zero_f32, zero_add]
  refine Finset.sum_congr rfl fun c _ => congrArg (· * x1 (ix2 c d)) ?_
  simp only [addf_apply]
  rw [show broadcast S2048x128 (Scalar.ofBits (F := Ideal) .f32 0x00000000#32) (ix2 r c) = 0 from Ideal.ofBits_zero_f32]
  exact congr (congrArg HAdd.hAdd (congr (congrArg HAdd.hAdd (congr (congrArg HAdd.hAdd (congr (congrArg HAdd.hAdd
    (congrArg (0 + ·) (marks_apply x0 0 _ _ r c))) (marks_apply x0 1 _ _ r c))) (marks_apply x0 2 _ _ r c)))
    (marks_apply x0 3 _ _ r c))) (marks_apply x0 4 _ _ r c)

end Cert.Proof.Block

end
-- ==== Proof.Array.lean ====
/-
  What the kernel's result holds after the run, at the extended reals: at batch `b`, position `l`, lane `d` the sum over
  the rows of the stacked table of a weight times the table's entry, the weights taken from the five indices at `b`, `l`.
  The 400 grid points write 400 blocks of 2048 rows, each block once, so the array is read block by block; the host's two
  reshapes between (4096, 200, ·) and (819200, ·) keep the row-major order.
-/
module

public import proofs.«01_k».proof.Proof.Block
public import Idealize.ShloMosaic.Lib.StableHlo.RunRead

@[expose] public section

noncomputable section

namespace Cert.Proof.Array

open Idealize.ShloMosaic Idealize.ShloMosaic.TcCoe Idealize.ShloMosaic.ValueIdx Idealize.SL.Sem
open Cert.KernelIdeal Cert.KernelIdeal.Gen Cert.Proof.Block
open Idealize.ShloMosaic.Pipeline (Dat)
open scoped BigOperators

variable (m : (ℓ : Loc nD τ sig) → Buf (Elt Ideal) ℓ) (c : Dev nD)

/-- The windows' block indices at a point: the indices and the result move with the point, the table stays. -/
theorem idx_facts : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, win0_0.index t 0 = t.val ∧ win0_0.index t 1 = 0 ∧ win0_1.index t 0 = 0
    ∧ win0_1.index t 1 = 0 ∧ win0_2.index t 0 = t.val ∧ win0_2.index t 1 = 0)

/-- The array's row that row `r` of point `t`'s block is. -/
def row (t : Fin 400) (r : Fin 2048) : Fin 819200 := ⟨t.val * 2048 + r.val, by omega⟩

/-- Row `r` of the block of indices at point `t`. -/
theorem indices_apply (t : Fin 400) (r : Fin 2048) (k : Fin 5) :
    (iblk m c 0 t : Vec Ideal S2048x5 .i32) (ix2 r k) = V m c main_v6 (ix2 (row t r) k) := by
  show V m c main_v6 (((cfg0.win 0).blk t).view.emb (ix2 r k)) = _
  congr 1
  obtain ⟨e0, e1, -⟩ := idx_facts t
  funext a; apply Fin.ext
  match a with
  | ⟨0, _⟩ => show win0_0.index t 0 * 2048 + 1 * r.val = t.val * 2048 + r.val; rw [e0]; omega
  | ⟨1, _⟩ => show win0_0.index t 1 * 5 + 1 * k.val = k.val; rw [e1]; omega

/-- The block of the stacked table at any point is the table. -/
theorem table_apply (t : Fin 400) (k : Fin 128) (d : Fin 128) :
    (iblk m c 1 t : Vec Ideal S128x128 .f32) (ix2 k d) = V m c main_v5 (ix2 k d) := by
  show V m c main_v5 (((cfg0.win 1).blk t).view.emb (ix2 k d)) = _
  congr 1
  obtain ⟨-, -, e0, e1, -⟩ := idx_facts t
  funext a; apply Fin.ext
  match a with
  | ⟨0, _⟩ => show win0_1.index t 0 * 128 + 1 * k.val = k.val; rw [e0]; omega
  | ⟨1, _⟩ => show win0_1.index t 1 * 128 + 1 * d.val = d.val; rw [e1]; omega

/-- Where row `r`, lane `d` of the block that point `t` writes sits in the array. -/
theorem result_emb (t : Fin 400) (r : Fin 2048) (d : Fin 128) :
    ((cfg0.win 2).blk t).view.emb (ix2 r d) = ix2 (row t r) d := by
  obtain ⟨-, -, -, -, e0, e1⟩ := idx_facts t
  funext a; apply Fin.ext
  match a with
  | ⟨0, _⟩ => show win0_2.index t 0 * 2048 + 1 * r.val = t.val * 2048 + r.val; rw [e0]; omega
  | ⟨1, _⟩ => show win0_2.index t 1 * 128 + 1 * d.val = d.val; rw [e1]; omega

/-- Different points write different blocks. -/
theorem blocks_disjoint : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by
    obtain ⟨-, -, -, -, e0, -⟩ := idx_facts t
    obtain ⟨-, -, -, -, e0', -⟩ := idx_facts t'
    rw [← e0, ← e0']
    exact congrFun h 0))

/-- One row of the result array after the run, through the block it lies in. -/
theorem array_row (t : Fin 400) (r : Fin 2048) (d : Fin 128) :
    ((dats m 0 c).arrAt 2 cfg0.N : Vec Ideal S819200x128 .f32) (ix2 (row t r) d)
      = ∑ k : Fin 128, weight (fun j => V m c main_v6 (ix2 (row t r) j)) k * V m c main_v5 (ix2 k d) := by
  have h := (dats m 0 c).arrAt_emb_eq_flushed 2 blocks_disjoint t (flush0_2 t) (ix2 r d)
  rw [result_emb] at h
  refine h.trans ?_
  rw [cast_eq]
  refine (congrFun (after0_2 m c t) (ix2 r d)).trans ((out_apply _ _ r d).trans ?_)
  exact Finset.sum_congr rfl fun k _ => congrArg₂ (· * ·)
    (congrArg (weight · k) (funext fun j => indices_apply m c t r j)) (table_apply m c t k d)

/-- Any row of the result array after the run. -/
theorem array_apply (n : Fin 819200) (d : Fin 128) :
    ((dats m 0 c).arrAt 2 cfg0.N : Vec Ideal S819200x128 .f32) (ix2 n d)
      = ∑ k : Fin 128, weight (fun j => V m c main_v6 (ix2 n j)) k * V m c main_v5 (ix2 k d) := by
  have e : n = row ⟨n.val / 2048, by omega⟩ ⟨n.val % 2048, by omega⟩ := Fin.ext (by
    show n.val = n.val / 2048 * 2048 + n.val % 2048; omega)
  rw [e]; exact array_row m c _ _ d

/-- The row of the flat arrays that batch `b`, position `l` is. -/
def flat (b : Fin 4096) (l : Fin 200) : Fin 819200 := ⟨b.val * 200 + l.val, by omega⟩

/-- The flat array of indices is the argument's, in row-major order. -/
theorem flat_indices (b : Fin 4096) (l : Fin 200) (k : Fin 5) :
    V m c main_v6 (ix2 (flat b l) k) = m ((c : Thread nD τ).loc main_arg0) (ix3 b l k) := by
  have e : V m c main_v6 = shapeCast S819200x5 (m ((c : Thread nD τ).loc main_arg0)) shapeCasts_S4096x200x5_S819200x5 := by
    unfold V V0 hostOps0
    after_reads_simp
    all_goals rfl
  rw [e]
  refine shapeCast_apply _ _ _ (ix3 b l k) ?_
  rw [Shape.rowMajor_val_two, Shape.rowMajor_val_three]
  show (b.val * 200 + l.val) * 5 + k.val = (b.val * 200 + l.val) * 5 + k.val
  rfl

/-- The result after the run: the last reshape of the result array. -/
theorem result_eq : Pipeline.afterTail₀ cfgs (dats m) 0 (V0 m) [hostOps1] c main_v8
    = shapeCast S4096x200x128 ((dats m 0 c).arrAt 2 cfg0.N : Vec Ideal S819200x128 .f32) shapeCasts_S819200x128_S4096x200x128 := by
  have e := Pipeline.withArrays_arr spec0 launch0.win.arr_inj c (V0 m c) (fun w => (dats m 0 c).arrAt w cfg0.N) 2
  unfold Pipeline.afterTail₀ hostOps1
  after_reads_simp
  exact congrArg (fun x => shapeCast S4096x200x128 (x : Vec Ideal S819200x128 .f32) shapeCasts_S819200x128_S4096x200x128) e

/-- The run: the result at the contents read below, the arguments as launched. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).2 main_v8 (Pipeline.mem_restRefs_of main_v8 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

/-- The result after the run, at an index. -/
theorem result_apply (b : Fin 4096) (l : Fin 200) (d : Fin 128) :
    Pipeline.afterTail₀ cfgs (dats m) 0 (V0 m) [hostOps1] c main_v8 (ix3 b l d)
      = ∑ k : Fin 128, weight (fun j => m ((c : Thread nD τ).loc main_arg0) (ix3 b l j)) k * V m c main_v5 (ix2 k d) := by
  rw [result_eq]
  refine (shapeCast_apply _ _ _ (ix2 (flat b l) d) ?_).trans ?_
  · rw [Shape.rowMajor_val_two, Shape.rowMajor_val_three]
    show (b.val * 200 + l.val) * 128 + d.val = (b.val * 200 + l.val) * 128 + d.val
    rfl
  · rw [array_apply]
    exact congrArg (fun w => ∑ k : Fin 128, weight w k * V m c main_v5 (ix2 k d)) (funext fun j => flat_indices m c b l j)

end Cert.Proof.Array

end
-- ==== Proof.KernelResult.lean ====
/-
  The kernel's result where every index is a row of its table. The five lanes a row of weights marks are then the rows of
  the stacked table the five indices name, one in each table's part, so the sum over the stacked table's rows is the sum of
  five entries; the parts lie in the order month, day, weekday, hour, minute, and extended reals add in any order.
-/
module

public import proofs.«01_k».proof.Proof.OneHot
public import proofs.«01_k».proof.Proof.Table
public import proofs.«01_k».proof.Proof.Array
public import proofs.«01_k».proof.Proof.Rows

@[expose] public section

noncomputable section

namespace Cert.Proof.KernelResult

open Idealize.ShloMosaic hiding ix2 ix3
open Idealize.ShloMosaic.TcCoe Idealize.ShloMosaic.ValueIdx Idealize.SL.Sem
open Cert.KernelIdeal Cert.KernelIdeal.Gen Cert.Proof.Block Cert.Proof.OneHot Cert.Proof.Rows
open Cert.Proof.Precondition (InTables)
open scoped BigOperators

/-- A lane equals an index in range moved to its table's part exactly if it is that row of the stacked table. -/
theorem lane_iff {n : Nat} (v : BitVec 32) (h : 0 ≤ v.toInt ∧ v.toInt < n) (off : Nat) (hoff : off + n ≤ 128) (c : Fin 128) :
    BitVec.ofNat 32 c.val = v + BitVec.ofNat 32 off ↔ c = ⟨off + (rowOf v h).val, by omega⟩ := by
  have hr := rowOf_val v h
  have hlt := (rowOf v h).isLt
  have hc := c.isLt
  have hv : v.toNat = (rowOf v h).val := by
    rw [BitVec.toInt_eq_toNat_cond] at hr
    have := v.isLt
    split at hr <;> omega
  rw [Fin.ext_iff, ← BitVec.toNat_inj, BitVec.toNat_add, BitVec.toNat_ofNat, BitVec.toNat_ofNat, hv]
  show _ ↔ c.val = off + (rowOf v h).val
  omega

/-- Equivalent conditions mark alike. -/
theorem hot_congr {p q : Prop} [Decidable p] [Decidable q] (h : p ↔ q) : hot p = hot q := by
  unfold hot
  exact if_congr h rfl rfl

/-- Five extended reals in the kernel's order and in the reference's. -/
theorem five_add (a b c d e : EReal) : a + b + c + d + e = (((e + d) + c) + b) + a := by
  ac_rfl

/-- A row of weights: one at the five rows of the stacked table the indices name, zero elsewhere, ones adding up. -/
theorem weight_eq (x : IVec S4096x200x5 32) (hx : InTables x) (b : Fin 4096) (l : Fin 200) (k : Fin 128) :
    weight (fun j => x (ix3 b l j)) k
      = ((((0 + hot (k = ⟨0 + (rowOf (n := 13) _ (hx b l 0)).val, by omega⟩))
          + hot (k = ⟨13 + (rowOf (n := 32) _ (hx b l 1)).val, by omega⟩))
          + hot (k = ⟨45 + (rowOf (n := 7) _ (hx b l 2)).val, by omega⟩))
          + hot (k = ⟨52 + (rowOf (n := 24) _ (hx b l 3)).val, by omega⟩))
          + hot (k = ⟨76 + (rowOf (n := 4) _ (hx b l 4)).val, by omega⟩) := by
  have h0 := hot_congr (lane_iff (n := 13) _ (hx b l 0) 0 (by decide) k)
  have h1 := hot_congr (lane_iff (n := 32) _ (hx b l 1) 13 (by decide) k)
  have h2 := hot_congr (lane_iff (n := 7) _ (hx b l 2) 45 (by decide) k)
  have h3 := hot_congr (lane_iff (n := 24) _ (hx b l 3) 52 (by decide) k)
  have h4 := hot_congr (lane_iff (n := 4) _ (hx b l 4) 76 (by decide) k)
  rw [← h0, ← h1, ← h2, ← h3, ← h4]
  rfl

variable (m : (ℓ : Loc nD τ sig) → Buf (Elt Ideal) ℓ) (c : Dev nD)

/-- The kernel's result: the same five entries as the reference's. -/
theorem result_apply (hx : InTables (m ((c.tc : Thread nD τ).loc main_arg0))) (b : Fin 4096) (l : Fin 200) (d : Fin 128) :
    Pipeline.afterTail₀ cfgs (dats m) 0 (V0 m) [hostOps1] c main_v8 (ix3 b l d)
      = sumOfRows (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) hx b l d := by
  refine (Array.result_apply m c b l d).trans ?_
  refine (Finset.sum_congr rfl fun k _ => congrArg (fun w : EReal => w * (V m c main_v5 (ix2 k d) : EReal))
    (weight_eq _ hx b l k)).trans ?_
  refine (sum_five_hot (fun k => (V m c main_v5 (ix2 k d) : EReal)) _ _ _ _ _).trans ?_
  refine (five_add _ _ _ _ _).trans ?_
  exact congrArg₂ (· + ·) (congrArg₂ (· + ·) (congrArg₂ (· + ·) (congrArg₂ (· + ·)
    (Table.minute_row m c _ d) (Table.hour_row m c _ d)) (Table.weekday_row m c _ d)) (Table.day_row m c _ d))
    (Table.month_row m c _ d)

end Cert.Proof.KernelResult

end
-- ==== Proof.lean ====
/-
  The claim. The three programs' frames: every run ends with the arguments unchanged and every semaphore at zero. The
  kernel's idealized program is the kernel's own, float operations read exactly. The equation: where every index is a row
  of its table, the kernel's result and the reference's are the same sum of five table entries at every place.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_tables
public import proofs.«01_k».proof.Proof.Gen.ReferenceIdeal.Run
public import proofs.«01_k».proof.Proof.Reference
public import proofs.«01_k».proof.Proof.KernelResult
public import Idealize.ShloMosaic.Adequacy
public import Idealize.ShloMosaic.Init

@[expose] public section

noncomputable section

namespace Cert.Proof

open Idealize.ShloMosaic Idealize.SL.Sem
open Cert.Proof.Precondition (inTables_of)

/-- The reference's frame: it writes none of its arguments, and it has no semaphores. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0 :=
  (θ_run Cert.ReferenceIdeal.defs _ _).mono (fun r h => ⟨fun c => (h c).2, sem_eq_zero_of_no_sems rfl r.2⟩)
    (Cert.ReferenceIdeal.Value.run m ρ)

/-- The equation: from memories agreeing on the arguments, every index a row of its table, the two results are equal. -/
theorem equation : Cert.algebraic_KernelIdeal_ReferenceIdeal_pre_in_tables := by
  intro m g m' g' hpre hagree
  refine ⟨_, Array.run m g, ?_⟩
  refine (θ_run Cert.ReferenceIdeal.defs _ _).mono (fun r h c => ⟨(h c).1.trans ?_, (h c).2⟩) (Cert.ReferenceIdeal.Value.run m' g')
  obtain ⟨h0, h1, h2, h3, h4, h5⟩ := hagree c
  have hx := inTables_of _ _ _ _ _ _ (hpre c)
  refine funext fun i => ?_
  rw [ValueIdx.eq_ix3 i]
  exact (Reference.result_apply m' c (h0 ▸ hx) _ _ _).trans
    ((Rows.sumOfRows_congr h0 h1 h2 h3 h4 h5 _ hx _ _ _).trans (KernelResult.result_apply m c hx _ _ _).symm)

/-- The claim: the frames, the idealized program's faithfulness, the equation. -/
theorem claim : Cert.Claim := ⟨Cert.Kernel.Gen.facts, Cert.KernelIdeal.Gen.facts, Cert.ReferenceIdeal.Gen.facts, Cert.Pre_in_tables.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ, trivial, equation⟩

end Cert.Proof

end
